-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S320000x128 : Shape := ⟨2, ![320000, 128]⟩
abbrev S512x128 : Shape := ⟨2, ![512, 128]⟩
abbrev S10000 : Shape := ⟨1, ![10000]⟩
abbrev S160000 : Shape := ⟨1, ![160000]⟩
abbrev S10000x1x1x128 : Shape := ⟨4, ![10000, 1, 1, 128]⟩
abbrev S160000x2x1x128 : Shape := ⟨4, ![160000, 2, 1, 128]⟩
abbrev S25x1x400 : Shape := ⟨3, ![25, 1, 400]⟩
abbrev S1x1x400 : Shape := ⟨3, ![1, 1, 400]⟩
abbrev S400x1x1x128 : Shape := ⟨4, ![400, 1, 1, 128]⟩
abbrev S1x400 : Shape := ⟨2, ![1, 400]⟩
abbrev S400x128 : Shape := ⟨2, ![400, 128]⟩
abbrev S512x400 : Shape := ⟨2, ![512, 400]⟩
abbrev S500x1x320 : Shape := ⟨3, ![500, 1, 320]⟩
abbrev S1x1x320 : Shape := ⟨3, ![1, 1, 320]⟩
abbrev S320x1x1x128 : Shape := ⟨4, ![320, 1, 1, 128]⟩
abbrev S1x320 : Shape := ⟨2, ![1, 320]⟩
abbrev S320x128 : Shape := ⟨2, ![320, 128]⟩
abbrev S512x320 : Shape := ⟨2, ![512, 320]⟩
abbrev S512x384 : Shape := ⟨2, ![512, 384]⟩

abbrev nBuf : Space → Nat
  | .hbm => 12
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S320000x128, .f32⟩
  | .hbm, ⟨2, _⟩ => ⟨S512x128, .f32⟩
  | .hbm, ⟨3, _⟩ => ⟨S10000, .i32⟩
  | .hbm, ⟨4, _⟩ => ⟨S160000, .i32⟩
  | .hbm, ⟨5, _⟩ => ⟨S10000x1x1x128, .f32⟩
  | .hbm, ⟨6, _⟩ => ⟨S160000x2x1x128, .f32⟩
  | .hbm, ⟨7, _⟩ => ⟨S25x1x400, .i32⟩
  | .hbm, ⟨8, _⟩ => ⟨S512x128, .f32⟩
  | .hbm, ⟨9, _⟩ => ⟨S500x1x320, .i32⟩
  | .hbm, ⟨10, _⟩ => ⟨S512x128, .f32⟩
  | .hbm, ⟨11, _⟩ => ⟨S512x384, .f32⟩
  | .local _ .vmem, ⟨0, _⟩ => ⟨S1x1x400, .i32⟩
  | .local _ .vmem, ⟨1, _⟩ => ⟨S1x1x400, .i32⟩
  | .local _ .vmem, ⟨2, _⟩ => ⟨S400x1x1x128, .f32⟩
  | .local _ .vmem, ⟨3, _⟩ => ⟨S400x1x1x128, .f32⟩
  | .local _ .vmem, ⟨4, _⟩ => ⟨S512x128, .f32⟩
  | .local _ .vmem, ⟨5, _⟩ => ⟨S1x1x320, .i32⟩
  | .local _ .vmem, ⟨6, _⟩ => ⟨S1x1x320, .i32⟩
  | .local _ .vmem, ⟨7, _⟩ => ⟨S320x1x1x128, .f32⟩
  | .local _ .vmem, ⟨8, _⟩ => ⟨S320x1x1x128, .f32⟩
  | .local _ .vmem, ⟨9, _⟩ => ⟨S512x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x400 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![500], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x320 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S320x1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== ReferenceIdeal.lean ====
abbrev S10000x128 : Shape := ⟨2, ![10000, 128]⟩
abbrev S320000x128 : Shape := ⟨2, ![320000, 128]⟩
abbrev S512x128 : Shape := ⟨2, ![512, 128]⟩
abbrev S10000 : Shape := ⟨1, ![10000]⟩
abbrev S160000 : Shape := ⟨1, ![160000]⟩
abbrev S_ : Shape := ⟨0, ![]⟩
abbrev S10000x1 : Shape := ⟨2, ![10000, 1]⟩
abbrev S160000x128 : Shape := ⟨2, ![160000, 128]⟩
abbrev S160000x1 : Shape := ⟨2, ![160000, 1]⟩
abbrev S512x384 : Shape := ⟨2, ![512, 384]⟩

abbrev nBuf : Space → Nat
  | .hbm => 15
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x128, .f32⟩
  | .hbm, ⟨2, _⟩ => ⟨S512x128, .f32⟩
  | .hbm, ⟨3, _⟩ => ⟨S10000, .i32⟩
  | .hbm, ⟨4, _⟩ => ⟨S160000, .i32⟩
  | .hbm, ⟨5, _⟩ => ⟨S_, .f32⟩
  | .hbm, ⟨6, _⟩ => ⟨S512x128, .f32⟩
  | .hbm, ⟨7, _⟩ => ⟨S10000x1, .i32⟩
  | .hbm, ⟨8, _⟩ => ⟨S512x128, .f32⟩
  | .hbm, ⟨9, _⟩ => ⟨S160000x128, .f32⟩
  | .hbm, ⟨10, _⟩ => ⟨S_, .f32⟩
  | .hbm, ⟨11, _⟩ => ⟨S512x128, .f32⟩
  | .hbm, ⟨12, _⟩ => ⟨S160000x1, .i32⟩
  | .hbm, ⟨13, _⟩ => ⟨S512x128, .f32⟩
  | .hbm, ⟨14, _⟩ => ⟨S512x384, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Proof.KernelRun.lean ====
/-
  The kernel's run, with the result named: both pallas_calls and the host operations around them, from any launch memory.
-/
module

public import proofs.«01_k».proof.Proof.Gen.KernelIdeal.Frame

@[expose] public section

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (m : (ℓ : Loc nD τ sig) → Buf (Elt F) ℓ) (ρ : Dev nD → PrngReg)

-- the launch rule's implicit arguments are found by unifying its conclusion with the theorem's
set_option backward.isDefEq.respectTransparency.types false in
/-- Every fair execution of the kernel ends, with the result array at the contents `W5` that the last host operation leaves,
    and with the arguments as launched. -/
theorem run : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp _)
            ⊢ BI.own (emb₁ (initOf (Pipeline.cells cfgs cellOf_inj) (Pipeline.launchToks cfgs cellOf_inj))) from .rfl)
        iexact Hu
      iapply (show (BI.emp : sProp _) ⊢ bigSep Finset.univ (fun _ : Dev nD => (BI.emp : sProp _)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelRun

end
-- ==== Proof.SegmentSum.lean ====
/-
  Segment sums over the extended reals, apart from any program.

  A segment sum takes one segment number per row and adds each row into the row of the result that its number names; a row
  whose number names no row of the result is left out. This file states that sum at one element of the result (`partialSum`,
  over the first so many rows) and shows that both ways of computing it give that number:

    * the host's accumulating scatter (`scatterAdd_apply`), all rows at once;
    * a product with a matrix of zeros and ones, one block of rows (`oneHot_apply`).
-/
module

public import Idealize.ShloMosaic.PureOps.Ideal.Laws
public import Idealize.ShloMosaic.Lib.MatmulPlain
public import Idealize.ShloMosaic.Lib.Pipeline.Value
public import Idealize.ShloMosaic.Lib.Pointwise
public import Idealize.ShloMosaic.Lib.Routing.OpsPair
public import Idealize.ShloMosaic.Lib.StableHlo.Predicate

@[expose] public section

noncomputable section

namespace Cert.SegmentSum

open Idealize.ShloMosaic
open scoped BigOperators

/-- What one row gives to segment `g`: its element `x` if its segment number, read signed, is `g`, and nothing otherwise. -/
def share (id : BitVec 32) (g : ℕ) (x : EReal) : EReal := if id.toInt = (g : ℤ) then x else 0

/-- What row `n` gives to segment `g`, for every natural number `n`: past the last row, nothing. -/
def shareAt {N : ℕ} (ids : Fin N → BitVec 32) (x : Fin N → EReal) (g n : ℕ) : EReal :=
  if h : n < N then share (ids ⟨n, h⟩) g (x ⟨n, h⟩) else 0

/-- The sum of segment `g` over the first `n` rows. -/
def partialSum {N : ℕ} (ids : Fin N → BitVec 32) (x : Fin N → EReal) (g n : ℕ) : EReal :=
  ∑ i ∈ Finset.range n, shareAt ids x g i

/-- Over all rows it is the sum over the row numbers. -/
theorem partialSum_all {N : ℕ} (ids : Fin N → BitVec 32) (x : Fin N → EReal) (g : ℕ) :
    partialSum ids x g N = ∑ n : Fin N, share (ids n) g (x n) := by
  unfold partialSum
  rw [Finset.sum_range]
  exact Finset.sum_congr rfl fun n _ => dif_pos n.isLt

/-- One more block of `K` rows, those from row `b` on: the sum so far and the block's shares. -/
theorem partialSum_block {N : ℕ} (ids : Fin N → BitVec 32) (x : Fin N → EReal) (g b K : ℕ) (hb : b + K ≤ N) :
    partialSum ids x g (b + K) = partialSum ids x g b
      + ∑ k : Fin K, share (ids ⟨b + k.val, by omega⟩) g (x ⟨b + k.val, by omega⟩) := by
  unfold partialSum
  rw [Finset.sum_range_add, Finset.sum_range (fun i => shareAt ids x g (b + i))]
  refine congrArg (_ + ·) (Finset.sum_congr rfl fun k _ => ?_)
  exact dif_pos (by omega)

/-- Blocks of `K` rows added one after another, the first to zero: after block `n` the sum is that over the first
    `K (n + 1)` rows. -/
theorem partialSum_blocks {N : ℕ} (ids : Fin N → BitVec 32) (x : Fin N → EReal) (g K P : ℕ)
    (hlt : ∀ n, n < P → ∀ k : Fin K, K * n + k.val < N) (hle : ∀ n, n < P → K * (n + 1) ≤ N) (f : ∀ n, n < P → EReal)
    (first : ∀ h : 0 < P, f 0 h = 0 + ∑ k : Fin K, share (ids ⟨K * 0 + k.val, hlt 0 h k⟩) g (x ⟨K * 0 + k.val, hlt 0 h k⟩))
    (later : ∀ n (h : n + 1 < P), f (n + 1) h = f n (Nat.lt_of_succ_lt h)
      + ∑ k : Fin K, share (ids ⟨K * (n + 1) + k.val, hlt (n + 1) h k⟩) g (x ⟨K * (n + 1) + k.val, hlt (n + 1) h k⟩)) :
    ∀ n (h : n < P), f n h = partialSum ids x g (K * (n + 1)) := by
  intro n
  induction n with
  | zero =>
    intro h
    rw [first, Nat.mul_succ, partialSum_block ids x g (K * 0) K (hle 0 h)]
    exact congrArg (· + _) (Finset.sum_range_zero _).symm
  | succ n ih =>
    intro h
    rw [later, ih, Nat.mul_succ K (n + 1), partialSum_block ids x g (K * (n + 1)) K (hle (n + 1) h)]

/-! ## The host's accumulating scatter -/

/-- Where an update lands: the scatter of `N` rows of `D` elements by one number per row puts element `(n, d')` at `(g, d)`
    exactly when row `n`'s number, read signed, is `g` and the columns are the same. -/
theorem lands_row {G N D : ℕ} (s : ScatterDims ⟨2, ![G, D]⟩ ⟨2, ![N, 1]⟩ ⟨2, ![N, D]⟩) (hw : s.updateWindowDims = [1])
    (hi : s.insertedWindowDims = [0]) (hs : s.scatterDimsToOperandDims = [0]) (hv : s.indexVectorDim = 1)
    (idx : IVec ⟨2, ![N, 1]⟩ 32) (n : Fin N) (d' : Fin D) (g : Fin G) (d : Fin D) :
    s.resultIdx? (ix2 n d') idx = some (ix2 g d) ↔ (idx (ix2 n (0 : Fin 1))).toInt = (g.val : ℤ) ∧ d' = d := by
  obtain ⟨uw, iw, sd, iv, wf⟩ := s
  simp only at hw hi hs hv
  subst hw hi hs hv
  rw [Routing.resultIdx?_eq_some, Fin.forall_fin_two]
  have h0 : ScatterDims.start ⟨[1], [0], [0], 1, wf⟩ (ix2 n d') idx 0 = (idx (ix2 n (0 : Fin 1))).toInt := by
    unfold ScatterDims.start
    rw [dif_pos (List.mem_singleton.2 rfl)]
    refine congrArg (fun i => (idx i).toInt) (funext fun b => Fin.ext ?_)
    match b with
    | ⟨0, _⟩ => rfl
    | ⟨1, _⟩ => rfl
  have h1 : ScatterDims.start ⟨[1], [0], [0], 1, wf⟩ (ix2 n d') idx 1 = 0 := by
    unfold ScatterDims.start
    exact dif_neg fun h => absurd (List.mem_singleton.1 h) (by decide : (1 : Fin 2) ≠ 0)
  have w0 : ScatterDims.window ⟨[1], [0], [0], 1, wf⟩ (ix2 n d') 0 = 0 := rfl
  have w1 : ScatterDims.window ⟨[1], [0], [0], 1, wf⟩ (ix2 n d') 1 = d'.val := rfl
  rw [h0, h1, w0, w1]
  show _ + ((0 : ℕ) : ℤ) = (g.val : ℤ) ∧ (0 : ℤ) + _ = (d.val : ℤ) ↔ _
  rw [Fin.ext_iff]
  omega

/-- The host's accumulating scatter of `N` rows into zeros, at `(g, d)`: the sum of segment `g` over all rows, of the
    elements in column `d`. -/
theorem scatterAdd_apply {G N D : ℕ} (s : ScatterDims ⟨2, ![G, D]⟩ ⟨2, ![N, 1]⟩ ⟨2, ![N, D]⟩) (hw : s.updateWindowDims = [1])
    (hi : s.insertedWindowDims = [0]) (hs : s.scatterDimsToOperandDims = [0]) (hv : s.indexVectorDim = 1)
    (z : FVec Ideal ⟨2, ![G, D]⟩ .f32) (idx : IVec ⟨2, ![N, 1]⟩ 32) (x : FVec Ideal ⟨2, ![N, D]⟩ .f32) (g : Fin G) (d : Fin D)
    (hz : z (ix2 g d) = 0) :
    Host.scatterAdd s z idx x (ix2 g d)
      = partialSum (fun n : Fin N => idx (ix2 n (0 : Fin 1))) (fun n => x (ix2 n d)) g.val N := by
  rw [partialSum_all]
  show z (ix2 g d) + ∑ j ∈ Finset.univ.filter (fun j => s.resultIdx? j idx = some (ix2 g d)), x j = _
  rw [hz, zero_add, Finset.sum_filter, sum_idx2]
  refine Finset.sum_congr rfl fun n _ => ?_
  rw [Finset.sum_congr rfl fun d' _ => if_congr (lands_row s hw hi hs hv idx n d' g d) rfl rfl]
  unfold share
  by_cases h : (idx (ix2 n (0 : Fin 1))).toInt = (g.val : ℤ)
  · simp [h]
  · simp [h]

/-! ## The product with a matrix of zeros and ones -/

/-- The matrix's entry: comparing a row number with a segment number, widening the bit and reading it as a float gives a
    factor that keeps the element it multiplies where the two agree and drops it otherwise. -/
theorem bit_mul (id : BitVec 32) (g : ℕ) (hg : g < 2 ^ 31) (h : 1 < 32) (x : EReal) :
    (FloatOps.sitofp .f32 ((IntOp.cmpi .eq (BitVec.ofNat 32 g) id).setWidth 32) : Ideal .f32) * x = share id g x := by
  have hiff : BitVec.ofNat 32 g = id ↔ id.toInt = (g : ℤ) := by
    rw [← StableHlo.Predicate.toInt_ofNat_small g hg]
    exact ⟨fun h => congrArg BitVec.toInt h.symm, fun h => (BitVec.eq_of_toInt_eq h).symm⟩
  unfold share
  by_cases hc : id.toInt = (g : ℤ)
  · rw [if_pos hc, hiff.2 hc]
    show (((((BitVec.ofBool (id == id)).setWidth 32).toInt : ℤ) : ℝ) : EReal) * x = x
    rw [beq_self_eq_true]
    exact (congrArg (fun r : ℝ => (r : EReal) * x) Int.cast_one).trans (one_mul x)
  · rw [if_neg hc]
    show (((((BitVec.ofBool (BitVec.ofNat 32 g == id)).setWidth 32).toInt : ℤ) : ℝ) : EReal) * x = 0
    rw [beq_eq_false_iff_ne.2 fun h => hc (hiff.1 h)]
    exact (congrArg (fun r : ℝ => (r : EReal) * x) Int.cast_zero).trans (zero_mul x)

/-- One block of `K` rows: the matrix whose entry at `(g, k)` is one where row `k`'s segment number is `g` and zero elsewhere,
    times the block, at `(g, d)`: the sum of the block's shares in segment `g`, of the elements in column `d`. -/
theorem oneHot_apply {G K D : ℕ} (hG : G ≤ 2 ^ 31) (ids : IVec ⟨2, ![1, K]⟩ 32) (x : FVec Ideal ⟨2, ![K, D]⟩ .f32)
    (hi : (⟨2, ![G, K]⟩ : Shape).Iotas .tc 32 [0]) (hb : (⟨2, ![1, K]⟩ : Shape).Broadcasts ⟨2, ![G, K]⟩) (h1 : 1 < 32) (g : Fin G) (d : Fin D) :
    (matmul (DotDims.plain G K D) none
        (sitofp .f32 (extui 32 (cmpi .eq (iota .tc ⟨2, ![G, K]⟩ 32 [0] hi) (broadcastTo ⟨2, ![G, K]⟩ ids hb)) h1)) x
        (constant ⟨2, ![G, D]⟩ .f32 0x00000000#32) : FVec Ideal ⟨2, ![G, D]⟩ .f32) (ix2 g d)
      = ∑ k : Fin K, share (ids (ix2 (0 : Fin 1) k)) g.val (x (ix2 k d)) := by
  refine (Ideal.matmul_plain_apply none _ x _ g d).trans ?_
  have hz : (constant ⟨2, ![G, D]⟩ .f32 0x00000000#32 : FVec Ideal ⟨2, ![G, D]⟩ .f32) (ValueIdx.ix2 g d) = 0 :=
    Ideal.ofBits_zero_f32
  rw [hz, zero_add]
  refine Finset.sum_congr rfl fun k _ => ?_
  refine Eq.trans ?_ (bit_mul (ids (ix2 (0 : Fin 1) k)) g.val (lt_of_lt_of_le g.isLt hG) h1 (x (ix2 k d)))
  have hbr : broadcastTo ⟨2, ![G, K]⟩ ids hb (ValueIdx.ix2 g k) = ids (ix2 (0 : Fin 1) k) := by
    refine broadcastTo_apply ids hb _ _ fun a => ?_
    match a with
    | ⟨0, _⟩ => exact (if_pos rfl).symm
    | ⟨1, _⟩ =>
      show k.val = if K = 1 then 0 else k.val
      have := k.isLt
      split <;> omega
  have hio : iota .tc ⟨2, ![G, K]⟩ 32 [0] hi (ValueIdx.ix2 g k) = BitVec.ofNat 32 g.val :=
    congrArg (BitVec.ofNat 32) (by show 0 * G + g.val = g.val; omega)
  rw [← hbr, ← hio]
  rfl

/-- The same product of a block as the kernels hold it, the segment numbers as 1 × 1 × `K` and the rows as `K` × 1 × 1 × `D`,
    each reshaped to a matrix. -/
theorem block_apply {G K D : ℕ} (hG : G ≤ 2 ^ 31) (ids : IVec ⟨3, ![1, 1, K]⟩ 32) (x : FVec Ideal ⟨4, ![K, 1, 1, D]⟩ .f32)
    (hids : (⟨3, ![1, 1, K]⟩ : Shape).ShapeCasts ⟨2, ![1, K]⟩) (hx : (⟨4, ![K, 1, 1, D]⟩ : Shape).ShapeCasts ⟨2, ![K, D]⟩)
    (hi : (⟨2, ![G, K]⟩ : Shape).Iotas .tc 32 [0]) (hb : (⟨2, ![1, K]⟩ : Shape).Broadcasts ⟨2, ![G, K]⟩) (h1 : 1 < 32) (g : Fin G) (d : Fin D) :
    (matmul (DotDims.plain G K D) none
        (sitofp .f32 (extui 32 (cmpi .eq (iota .tc ⟨2, ![G, K]⟩ 32 [0] hi) (broadcastTo ⟨2, ![G, K]⟩ (shapeCast ⟨2, ![1, K]⟩ ids hids) hb)) h1))
        (shapeCast ⟨2, ![K, D]⟩ x hx) (constant ⟨2, ![G, D]⟩ .f32 0x00000000#32) : FVec Ideal ⟨2, ![G, D]⟩ .f32) (ix2 g d)
      = ∑ k : Fin K, share (ids (ix3 (0 : Fin 1) (0 : Fin 1) k)) g.val (x (ix4 k (0 : Fin 1) (0 : Fin 1) d)) := by
  refine (oneHot_apply hG _ _ hi hb h1 g d).trans (Finset.sum_congr rfl fun k _ => ?_)
  rw [shapeCast_apply ids _ _ (ix3 (0 : Fin 1) (0 : Fin 1) k) (by
      rw [Shape.rowMajor_val_three, Shape.rowMajor_val_two]
      show (0 * 1 + 0) * K + k.val = 0 * K + k.val; omega),
    shapeCast_apply x _ _ (ix4 k (0 : Fin 1) (0 : Fin 1) d) (by
      rw [Shape.rowMajor_val_four, Shape.rowMajor_val_two]
      show ((k.val * 1 + 0) * 1 + 0) * D + d.val = k.val * D + d.val
      rw [Nat.mul_one, Nat.add_zero, Nat.mul_one])]

end Cert.SegmentSum

end
-- ==== Proof.AtomRegion.lean ====
/-
  The first kernel, over the atom rows: 25 points of 400 rows each, all adding into one block of 512 × 128 sums.

  Point 0 clears the block; every point multiplies its 400 rows by the matrix of zeros and ones that says which row is in
  which segment, and adds the product to the block; the block is written back after the last point. So after point `n` the
  block holds the segment sums over the first `400 (n + 1)` rows (`sums`), and the result array ends with the sums over all
  10000 (`result_apply`).
-/
module

public import proofs.«01_k».proof.Proof.SegmentSum
public import proofs.«01_k».proof.Proof.Gen.KernelIdeal.Frame
public import Idealize.ShloMosaic.Lib.Pipeline.Value
public import Idealize.ShloMosaic.Lib.StableHlo.Run
public import Idealize.ShloMosaic.Lib.Tactic

@[expose] public section

noncomputable section

namespace Cert.AtomRegion

open Idealize.ShloMosaic Idealize.ShloMosaic.TcCoe Idealize.SL.Sem
open Cert.KernelIdeal Cert.KernelIdeal.Gen Cert.SegmentSum

/-! ## What one point leaves in the block of sums -/

section Point

variable (c : Dev nD) (i : grid0.Coords) (a1 : Memref sig .tc .vmem S1x1x400 .i32) (h1 : a1.IsWhole)
  (a2 : Memref sig .tc .vmem S400x1x1x128 .f32) (h2 : a2.IsWhole) (a3 : Memref sig .tc .vmem S512x128 .f32) (h3 : a3.IsWhole)
  (ids : Vec Ideal S1x1x400 .i32) (rows : Vec Ideal S400x1x1x128 .f32)

/-- The origin of a rank-2 block, whose coordinates are all 0. -/
theorem origin2 : (![0, 0] : Fin 2 → ℕ) = fun _ => 0 := funext fun a => by fin_cases a <;> rfl
/-- The origin of a rank-3 block, whose coordinates are all 0. -/
theorem origin3 : (![0, 0, 0] : Fin 3 → ℕ) = fun _ => 0 := funext fun a => by fin_cases a <;> rfl
/-- The origin of a rank-4 block, whose coordinates are all 0. -/
theorem origin4 : (![0, 0, 0, 0] : Fin 4 → ℕ) = fun _ => 0 := funext fun a => by fin_cases a <;> rfl

/-- A point after the first leaves its payload over what it found: one store of the whole block. -/
theorem later_point (hc : ¬cond0_0 i) (acc : Vec Ideal S512x128 .f32) :
    out0_B_2 c i a1 h1 a2 h2 a3 h3 hc ids rows acc = k0_pay2 ids rows acc := by
  unfold out0_B_2
  rw [View.read_writes_eq_canon _ _ _ (cover0_B_2 c i a1 h1 a2 h2 a3 h3 hc ids rows acc)]
  unfold kernelRun0_B
  dsimp only
  rw [View.canon_unit_zero origin2]
  simp only [View.readAt_eq_ld, h1.read_unread, h2.read_unread, h3.read_unread, View.ld_unit_zero (S := S512x128) origin2,
    View.ld_unit_zero (S := S1x1x400) origin3, View.ld_unit_zero (S := S400x1x1x128) origin4]

/-- The first point clears the block and leaves its payload over the zeros. -/
theorem first_point (hc : cond0_0 i) :
    out0_A_2 c i a1 h1 a2 h2 a3 h3 hc ids rows = k0_pay2 ids rows (k0_pay1 (F := Ideal)) := by
  unfold out0_A_2
  rw [View.read_writes_eq_canon _ _ _ (cover0_A_2 c i a1 h1 a2 h2 a3 h3 hc ids rows)]
  unfold kernelRun0_A
  dsimp only
  sl_unfold_words
  rw [View.canon_cons_unit_zero (S := S512x128) origin2, View.readCov_unit_zero (S := S512x128) _ origin2]
  simp only [View.readAt_eq_ld, h1.read_unread, h2.read_unread,
    View.ld_unit_zero (S := S1x1x400) origin3, View.ld_unit_zero (S := S400x1x1x128) origin4]

end Point

/-- The payload at `(g, d)`: the sum found there and the block's shares in segment `g`. -/
theorem payload_apply (ids : Vec Ideal S1x1x400 .i32) (rows : Vec Ideal S400x1x1x128 .f32) (acc : Vec Ideal S512x128 .f32)
    (g : Fin 512) (d : Fin 128) :
    k0_pay2 ids rows acc (ix2 g d)
      = acc (ix2 g d) + ∑ k : Fin 400, share (ids (ix3 (0 : Fin 1) (0 : Fin 1) k)) g.val (rows (ix4 k (0 : Fin 1) (0 : Fin 1) d)) := by
  unfold k0_pay2
  show shapeCast S512x128 acc _ (ix2 g d) + _ = _
  rw [shapeCast_self]
  exact congrArg (acc (ix2 g d) + ·) (block_apply (by norm_num) ids rows _ _ _ _ _ g d)

/-- The cleared block holds zeros. -/
theorem cleared (i : S512x128.Idx) : (k0_pay1 : FVec Ideal S512x128 .f32) i = 0 := Ideal.ofBits_zero_f32

/-! ## The blocks the points read -/

variable (m : (ℓ : Loc nD τ sig) → Buf (Elt Ideal) ℓ) (ρ : Dev nD → PrngReg) (c : Dev nD)

/-- The atom rows' segment numbers, as launched. -/
abbrev ids (n : Fin 10000) : BitVec 32 := (m ((c : Thread nD τ).loc main_arg3) : Vec Ideal S10000 .i32) (ix1 n)
/-- Column `d` of the atom rows, as launched. -/
abbrev column (d : Fin 128) (n : Fin 10000) : EReal := (m ((c : Thread nD τ).loc main_arg0) : Vec Ideal S10000x128 .f32) (ix2 n d)

/-- Row `k` of point `t`'s block is a row of the array. -/
theorem row_lt (t : Fin cfg0.N) (k : Fin 400) : 400 * t.val + k.val < 10000 := by
  have ht : t.val < 25 := lt_of_lt_of_eq t.isLt N_0
  have := k.isLt
  omega

/-- The grid has one axis, so a point's coordinate there is the point. -/
theorem coord (t : Fin cfg0.N) : (grid0.coords t 0).val = t.val := by
  have ht : t.val < 25 := lt_of_lt_of_eq t.isLt N_0
  rw [Pipeline.Grid.coords_val t 0 (S := 1) (B := 25) (by decide) rfl]
  omega

/-- Window 0's block index at point `t`. -/
theorem index_ids (t : Fin cfg0.N) : win0_0.index t = ![t.val, 0, 0] := by
  have ht : t.val < 25 := lt_of_lt_of_eq t.isLt N_0
  show ![(BitVec.ofNat 32 (grid0.coords t 0).val).toNat, 0, 0] = _
  rw [coord, BitVec.toNat_ofNat, Nat.mod_eq_of_lt (by omega)]

/-- Window 1's block index at point `t`. -/
theorem index_rows (t : Fin cfg0.N) : win0_1.index t = ![t.val, 0, 0, 0] := by
  have ht : t.val < 25 := lt_of_lt_of_eq t.isLt N_0
  show ![(BitVec.ofNat 32 (grid0.coords t 0).val).toNat, 0, 0, 0] = _
  rw [coord, BitVec.toNat_ofNat, Nat.mod_eq_of_lt (by omega)]

/-- The region finds the segment numbers reshaped to 25 × 1 × 400. -/
theorem entry_ids : (V1 m ρ c main_v2 : Vec Ideal S25x1x400 .i32)
    = shapeCast S25x1x400 (m ((c : Thread nD τ).loc main_arg3) : Vec Ideal S10000 .i32) shapeCasts_S10000_S25x1x400 := by
  show StableHlo.after hostOps0 (W0 m ρ c) (Proc.devRef .tc main_v2) = _
  after_results
  rfl

/-- The region finds the rows reshaped to 10000 × 1 × 1 × 128. -/
theorem entry_rows : (V1 m ρ c main_v0 : Vec Ideal S10000x1x1x128 .f32)
    = shapeCast S10000x1x1x128 (m ((c : Thread nD τ).loc main_arg0) : Vec Ideal S10000x128 .f32) shapeCasts_S10000x128_S10000x1x1x128 := by
  show StableHlo.after hostOps0 (W0 m ρ c) (Proc.devRef .tc main_v0) = _
  after_results
  rfl

/-- Point `t` reads the segment numbers of the rows from `400 t` on. -/
theorem ids_block (t : Fin cfg0.N) (k : Fin 400) :
    (iblk0 (V1 m ρ) c 0 t : Vec Ideal S1x1x400 .i32) (ix3 (0 : Fin 1) (0 : Fin 1) k) = ids m c ⟨400 * t.val + k.val, row_lt t k⟩ := by
  have ht : t.val < 25 := lt_of_lt_of_eq t.isLt N_0
  unfold iblk0
  rw [View.read_apply]
  trans (V1 m ρ c main_v2 : Vec Ideal S25x1x400 .i32) (ix3 (⟨t.val, ht⟩ : Fin 25) (0 : Fin 1) k)
  · show V1 m ρ c main_v2 _ = _
    congr 1
    funext a
    apply Fin.ext
    match a with
    | ⟨0, _⟩ => show win0_0.index t 0 * 1 + 1 * 0 = t.val; rw [index_ids]; show t.val * 1 + 1 * 0 = t.val; omega
    | ⟨1, _⟩ => show win0_0.index t 1 * 1 + 1 * 0 = 0; rw [index_ids]; rfl
    | ⟨2, _⟩ => show win0_0.index t 2 * 400 + 1 * k.val = k.val; rw [index_ids]; show 0 * 400 + 1 * k.val = k.val; omega
  · rw [entry_ids]
    exact shapeCast_apply _ _ _ _ (by
      show (S10000.rowMajor (ix1 _)).val = _
      rw [Shape.rowMajor_val_one, Shape.rowMajor_val_three]
      show 400 * t.val + k.val = (t.val * 1 + 0) * 400 + k.val
      omega)

/-- Point `t` reads the rows from `400 t` on. -/
theorem rows_block (t : Fin cfg0.N) (k : Fin 400) (d : Fin 128) :
    (iblk0 (V1 m ρ) c 1 t : Vec Ideal S400x1x1x128 .f32) (ix4 k (0 : Fin 1) (0 : Fin 1) d)
      = column m c d ⟨400 * t.val + k.val, row_lt t k⟩ := by
  unfold iblk0
  rw [View.read_apply]
  trans (V1 m ρ c main_v0 : Vec Ideal S10000x1x1x128 .f32)
    (ix4 (⟨400 * t.val + k.val, row_lt t k⟩ : Fin 10000) (0 : Fin 1) (0 : Fin 1) d)
  · show V1 m ρ c main_v0 _ = _
    congr 1
    funext a
    apply Fin.ext
    match a with
    | ⟨0, _⟩ => show win0_1.index t 0 * 400 + 1 * k.val = 400 * t.val + k.val; rw [index_rows]; show t.val * 400 + 1 * k.val = _; omega
    | ⟨1, _⟩ => show win0_1.index t 1 * 1 + 1 * 0 = 0; rw [index_rows]; rfl
    | ⟨2, _⟩ => show win0_1.index t 2 * 1 + 1 * 0 = 0; rw [index_rows]; rfl
    | ⟨3, _⟩ => show win0_1.index t 3 * 128 + 1 * d.val = d.val; rw [index_rows]; show 0 * 128 + 1 * d.val = d.val; omega
  · rw [entry_rows]
    exact shapeCast_apply _ _ _ _ (by
      show (S10000x128.rowMajor (ix2 _ d)).val = _
      rw [Shape.rowMajor_val_two, Shape.rowMajor_val_four]
      show (400 * t.val + k.val) * 128 + d.val = (((400 * t.val + k.val) * 1 + 0) * 1 + 0) * 128 + d.val
      omega)

/-- A point adds its 400 rows' shares to what the block held. -/
theorem step (t : Fin cfg0.N) (acc : Vec Ideal S512x128 .f32) (g : Fin 512) (d : Fin 128) :
    k0_pay2 (iblk0 (V1 m ρ) c 0 t) (iblk0 (V1 m ρ) c 1 t) acc (ix2 g d)
      = acc (ix2 g d) + ∑ k : Fin 400, share (ids m c ⟨400 * t.val + k.val, row_lt t k⟩) g.val
          (column m c d ⟨400 * t.val + k.val, row_lt t k⟩) := by
  rw [payload_apply]
  refine congrArg (_ + ·) (Finset.sum_congr rfl fun k _ => ?_)
  rw [ids_block, rows_block]

/-- After point `n` the block holds, at `(g, d)`, the sum of segment `g` over the first `400 (n + 1)` rows. -/
theorem sums (g : Fin 512) (d : Fin 128) : ∀ (n : ℕ) (h : n < cfg0.N),
    outsAt0 (V1 m ρ) c n h (ix2 g d) = partialSum (ids m c) (column m c d) g.val (400 * (n + 1)) := by
  have hN : cfg0.N = 25 := N_0
  refine partialSum_blocks _ _ _ 400 cfg0.N (fun n h => row_lt ⟨n, h⟩) (fun n h => by omega) _ (fun h => ?_) fun n h => ?_
  · refine (congrFun ((outsAt0_A (V1 m ρ) c ⟨0, h⟩ rfl).trans (first_point ..)) _).trans ((step m ρ c ⟨0, h⟩ _ g d).trans ?_)
    rw [cleared]
  · have later : ¬(⟨n + 1, h⟩ : Fin cfg0.N).val % 25 = 0 := by dsimp only; omega
    exact (congrFun ((outsAt0_B (V1 m ρ) c ⟨n + 1, h⟩ later).trans (later_point ..)) _).trans (step m ρ c ⟨n + 1, h⟩ _ g d)

/-! ## The result array -/

/-- The last point, after which the block is written back. -/
abbrev last : Fin cfg0.N := ⟨24, by rw [show cfg0.N = 25 from N_0]; decide⟩

/-- The array ends with what the block holds after the last point. -/
theorem result_eq : (dat0 (V1 m ρ) c).arrAt 2 cfg0.N = outsAt0 (V1 m ρ) c last.val last.isLt := by
  refine (dat0 (V1 m ρ) c).arrAt_eq_of_cover 2 _ (fun t hf => ?_) fun i => ⟨last, (flush0_2 last).mpr rfl, ?_⟩
  · have ht : t.val < 25 := lt_of_lt_of_eq t.isLt N_0
    obtain rfl : t = last := Fin.ext (by have := (flush0_2 t).mp hf; show t.val = 24; omega)
    show (cfg0.win 2).cut (grid0.coords last) ((dat0 (V1 m ρ) c).after 2 last) = _
    rw [after0_2]
    have hz : (fun a => win0_2.index last a * main_v3.ty.shape.size a) = fun _ => 0 := funext fun a => by fin_cases a <;> rfl
    exact (Memref.read_access_unit_zero (Elt Ideal) main_v3 hz (fun a => by rw [congrFun hz a]; simp) _).symm
  · show i ∈ ((View.whole main_v3).slice (win0_2.rect last)).set
    rw [View.set_slice_whole, Rect.mem_set_unit]
    intro a
    have := (i a).isLt
    match a with
    | ⟨0, h⟩ => exact ⟨Nat.zero_le _, by show (i ⟨0, h⟩).val < 0 * 512 + 512; exact lt_of_lt_of_eq this rfl⟩
    | ⟨1, h⟩ => exact ⟨Nat.zero_le _, by show (i ⟨1, h⟩).val < 0 * 128 + 128; exact lt_of_lt_of_eq this rfl⟩

/-- The array ends with the segment sums of the atom rows. -/
theorem result_apply (g : Fin 512) (d : Fin 128) :
    ((dat0 (V1 m ρ) c).arrAt 2 cfg0.N : Vec Ideal S512x128 .f32) (ix2 g d) = partialSum (ids m c) (column m c d) g.val 10000 := by
  rw [result_eq]
  exact sums m ρ c g d 24 _

end Cert.AtomRegion

end
-- ==== Proof.BondRegion.lean ====
/-
  The second kernel, over the bond rows: 500 points of 320 rows each, all adding into one block of 512 × 128 sums.

  The argument has 320000 rows. The kernel sees them as 160000 pairs and reads the first of each pair, so its row `n` is row
  `2 n` of the argument. Otherwise this is the first kernel (`Cert.AtomRegion`) at other sizes: after point `n` the block
  holds the segment sums over the first `320 (n + 1)` rows (`sums`), and the result array ends with the sums over all 160000
  (`result_apply`).
-/
module

public import proofs.«01_k».proof.Proof.AtomRegion

@[expose] public section

noncomputable section

namespace Cert.BondRegion

open Idealize.ShloMosaic Idealize.ShloMosaic.TcCoe Idealize.SL.Sem
open Cert.KernelIdeal Cert.KernelIdeal.Gen Cert.SegmentSum
open Cert.AtomRegion (origin2 origin3 origin4)

/-! ## What one point leaves in the block of sums -/

section Point

variable (c : Dev nD) (i : grid1.Coords) (a1 : Memref sig .tc .vmem S1x1x320 .i32) (h1 : a1.IsWhole)
  (a2 : Memref sig .tc .vmem S320x1x1x128 .f32) (h2 : a2.IsWhole) (a3 : Memref sig .tc .vmem S512x128 .f32) (h3 : a3.IsWhole)
  (ids : Vec Ideal S1x1x320 .i32) (rows : Vec Ideal S320x1x1x128 .f32)

/-- A point after the first leaves its payload over what it found: one store of the whole block. -/
theorem later_point (hc : ¬cond1_0 i) (acc : Vec Ideal S512x128 .f32) :
    out1_B_2 c i a1 h1 a2 h2 a3 h3 hc ids rows acc = k1_pay2 ids rows acc := by
  unfold out1_B_2
  rw [View.read_writes_eq_canon _ _ _ (cover1_B_2 c i a1 h1 a2 h2 a3 h3 hc ids rows acc)]
  unfold kernelRun1_B
  dsimp only
  rw [View.canon_unit_zero origin2]
  simp only [View.readAt_eq_ld, h1.read_unread, h2.read_unread, h3.read_unread, View.ld_unit_zero (S := S512x128) origin2,
    View.ld_unit_zero (S := S1x1x320) origin3, View.ld_unit_zero (S := S320x1x1x128) origin4]

/-- The first point clears the block and leaves its payload over the zeros. -/
theorem first_point (hc : cond1_0 i) :
    out1_A_2 c i a1 h1 a2 h2 a3 h3 hc ids rows = k1_pay2 ids rows (k1_pay1 (F := Ideal)) := by
  unfold out1_A_2
  rw [View.read_writes_eq_canon _ _ _ (cover1_A_2 c i a1 h1 a2 h2 a3 h3 hc ids rows)]
  unfold kernelRun1_A
  dsimp only
  sl_unfold_words
  rw [View.canon_cons_unit_zero (S := S512x128) origin2, View.readCov_unit_zero (S := S512x128) _ origin2]
  simp only [View.readAt_eq_ld, h1.read_unread, h2.read_unread,
    View.ld_unit_zero (S := S1x1x320) origin3, View.ld_unit_zero (S := S320x1x1x128) origin4]

end Point

/-- The payload at `(g, d)`: the sum found there and the block's shares in segment `g`. -/
theorem payload_apply (ids : Vec Ideal S1x1x320 .i32) (rows : Vec Ideal S320x1x1x128 .f32) (acc : Vec Ideal S512x128 .f32)
    (g : Fin 512) (d : Fin 128) :
    k1_pay2 ids rows acc (ix2 g d)
      = acc (ix2 g d) + ∑ k : Fin 320, share (ids (ix3 (0 : Fin 1) (0 : Fin 1) k)) g.val (rows (ix4 k (0 : Fin 1) (0 : Fin 1) d)) := by
  unfold k1_pay2
  show shapeCast S512x128 acc _ (ix2 g d) + _ = _
  rw [shapeCast_self]
  exact congrArg (acc (ix2 g d) + ·) (block_apply (by norm_num) ids rows _ _ _ _ _ g d)

/-- The cleared block holds zeros. -/
theorem cleared (i : S512x128.Idx) : (k1_pay1 : FVec Ideal S512x128 .f32) i = 0 := Ideal.ofBits_zero_f32

/-! ## The blocks the points read -/

variable (m : (ℓ : Loc nD τ sig) → Buf (Elt Ideal) ℓ) (ρ : Dev nD → PrngReg) (c : Dev nD)

/-- The bond rows' segment numbers, as launched. -/
abbrev ids (n : Fin 160000) : BitVec 32 := (m ((c : Thread nD τ).loc main_arg4) : Vec Ideal S160000 .i32) (ix1 n)
/-- Column `d` of the even rows of the bond argument, as launched. -/
abbrev column (d : Fin 128) (n : Fin 160000) : EReal := (m ((c : Thread nD τ).loc main_arg1) : Vec Ideal S320000x128 .f32)
  (ix2 (⟨2 * n.val, by omega⟩ : Fin 320000) d)

/-- Row `k` of point `t`'s block is one of the 160000 pairs. -/
theorem row_lt (t : Fin cfg1.N) (k : Fin 320) : 320 * t.val + k.val < 160000 := by
  have ht : t.val < 500 := lt_of_lt_of_eq t.isLt N_1
  have := k.isLt
  omega

/-- The grid has one axis, so a point's coordinate there is the point. -/
theorem coord (t : Fin cfg1.N) : (grid1.coords t 0).val = t.val := by
  have ht : t.val < 500 := lt_of_lt_of_eq t.isLt N_1
  rw [Pipeline.Grid.coords_val t 0 (S := 1) (B := 500) (by decide) rfl]
  omega

/-- Window 0's block index at point `t`. -/
theorem index_ids (t : Fin cfg1.N) : win1_0.index t = ![t.val, 0, 0] := by
  have ht : t.val < 500 := lt_of_lt_of_eq t.isLt N_1
  show ![(BitVec.ofNat 32 (grid1.coords t 0).val).toNat, 0, 0] = _
  rw [coord, BitVec.toNat_ofNat, Nat.mod_eq_of_lt (by omega)]

/-- Window 1's block index at point `t`. -/
theorem index_rows (t : Fin cfg1.N) : win1_1.index t = ![t.val, 0, 0, 0] := by
  have ht : t.val < 500 := lt_of_lt_of_eq t.isLt N_1
  show ![(BitVec.ofNat 32 (grid1.coords t 0).val).toNat, 0, 0, 0] = _
  rw [coord, BitVec.toNat_ofNat, Nat.mod_eq_of_lt (by omega)]

/-- The region finds the segment numbers reshaped to 500 × 1 × 320. -/
theorem entry_ids : (V3 m ρ c main_v4 : Vec Ideal S500x1x320 .i32)
    = shapeCast S500x1x320 (m ((c : Thread nD τ).loc main_arg4) : Vec Ideal S160000 .i32) shapeCasts_S160000_S500x1x320 := by
  rw [← W2_args m ρ c main_arg4 (by decide)]
  show StableHlo.after hostOps1 (W2 m ρ c) (Proc.devRef .tc main_v4) = _
  after_results
  rfl

/-- The region finds the rows reshaped to 160000 × 2 × 1 × 128. -/
theorem entry_rows : (V3 m ρ c main_v1 : Vec Ideal S160000x2x1x128 .f32)
    = shapeCast S160000x2x1x128 (m ((c : Thread nD τ).loc main_arg1) : Vec Ideal S320000x128 .f32) shapeCasts_S320000x128_S160000x2x1x128 := by
  refine ((W3_of m ρ c main_v1 (by decide)).trans (W2_of m ρ c main_v1 (by decide))).trans ?_
  show StableHlo.after hostOps0 (W0 m ρ c) (Proc.devRef .tc main_v1) = _
  after_results
  rfl

/-- Point `t` reads the segment numbers of the rows from `320 t` on. -/
theorem ids_block (t : Fin cfg1.N) (k : Fin 320) :
    (iblk1 (V3 m ρ) c 0 t : Vec Ideal S1x1x320 .i32) (ix3 (0 : Fin 1) (0 : Fin 1) k) = ids m c ⟨320 * t.val + k.val, row_lt t k⟩ := by
  have ht : t.val < 500 := lt_of_lt_of_eq t.isLt N_1
  unfold iblk1
  rw [View.read_apply]
  trans (V3 m ρ c main_v4 : Vec Ideal S500x1x320 .i32) (ix3 (⟨t.val, ht⟩ : Fin 500) (0 : Fin 1) k)
  · show V3 m ρ c main_v4 _ = _
    congr 1
    funext a
    apply Fin.ext
    match a with
    | ⟨0, _⟩ => show win1_0.index t 0 * 1 + 1 * 0 = t.val; rw [index_ids]; show t.val * 1 + 1 * 0 = t.val; omega
    | ⟨1, _⟩ => show win1_0.index t 1 * 1 + 1 * 0 = 0; rw [index_ids]; rfl
    | ⟨2, _⟩ => show win1_0.index t 2 * 320 + 1 * k.val = k.val; rw [index_ids]; show 0 * 320 + 1 * k.val = k.val; omega
  · rw [entry_ids]
    exact shapeCast_apply _ _ _ _ (by
      show (S160000.rowMajor (ix1 _)).val = _
      rw [Shape.rowMajor_val_one, Shape.rowMajor_val_three]
      show 320 * t.val + k.val = (t.val * 1 + 0) * 320 + k.val
      omega)

/-- Point `t` reads the rows from `320 t` on. -/
theorem rows_block (t : Fin cfg1.N) (k : Fin 320) (d : Fin 128) :
    (iblk1 (V3 m ρ) c 1 t : Vec Ideal S320x1x1x128 .f32) (ix4 k (0 : Fin 1) (0 : Fin 1) d)
      = column m c d ⟨320 * t.val + k.val, row_lt t k⟩ := by
  unfold iblk1
  rw [View.read_apply]
  trans (V3 m ρ c main_v1 : Vec Ideal S160000x2x1x128 .f32)
    (ix4 (⟨320 * t.val + k.val, row_lt t k⟩ : Fin 160000) (0 : Fin 2) (0 : Fin 1) d)
  · show V3 m ρ c main_v1 _ = _
    congr 1
    funext a
    apply Fin.ext
    match a with
    | ⟨0, _⟩ => show win1_1.index t 0 * 320 + 1 * k.val = 320 * t.val + k.val; rw [index_rows]; show t.val * 320 + 1 * k.val = _; omega
    | ⟨1, _⟩ => show win1_1.index t 1 * 1 + 1 * 0 = 0; rw [index_rows]; rfl
    | ⟨2, _⟩ => show win1_1.index t 2 * 1 + 1 * 0 = 0; rw [index_rows]; rfl
    | ⟨3, _⟩ => show win1_1.index t 3 * 128 + 1 * d.val = d.val; rw [index_rows]; show 0 * 128 + 1 * d.val = d.val; omega
  · rw [entry_rows]
    exact shapeCast_apply _ _ _ _ (by
      show (S320000x128.rowMajor (ix2 _ d)).val = _
      rw [Shape.rowMajor_val_two, Shape.rowMajor_val_four]
      show 2 * (320 * t.val + k.val) * 128 + d.val = (((320 * t.val + k.val) * 2 + 0) * 1 + 0) * 128 + d.val
      omega)

/-- A point adds its 320 rows' shares to what the block held. -/
theorem step (t : Fin cfg1.N) (acc : Vec Ideal S512x128 .f32) (g : Fin 512) (d : Fin 128) :
    k1_pay2 (iblk1 (V3 m ρ) c 0 t) (iblk1 (V3 m ρ) c 1 t) acc (ix2 g d)
      = acc (ix2 g d) + ∑ k : Fin 320, share (ids m c ⟨320 * t.val + k.val, row_lt t k⟩) g.val
          (column m c d ⟨320 * t.val + k.val, row_lt t k⟩) := by
  rw [payload_apply]
  refine congrArg (_ + ·) (Finset.sum_congr rfl fun k _ => ?_)
  rw [ids_block, rows_block]

/-- After point `n` the block holds, at `(g, d)`, the sum of segment `g` over the first `320 (n + 1)` rows. -/
theorem sums (g : Fin 512) (d : Fin 128) : ∀ (n : ℕ) (h : n < cfg1.N),
    outsAt1 (V3 m ρ) c n h (ix2 g d) = partialSum (ids m c) (column m c d) g.val (320 * (n + 1)) := by
  have hN : cfg1.N = 500 := N_1
  refine partialSum_blocks _ _ _ 320 cfg1.N (fun n h => row_lt ⟨n, h⟩) (fun n h => by omega) _ (fun h => ?_) fun n h => ?_
  · refine (congrFun ((outsAt1_A (V3 m ρ) c ⟨0, h⟩ rfl).trans (first_point ..)) _).trans ((step m ρ c ⟨0, h⟩ _ g d).trans ?_)
    rw [cleared]
  · have later : ¬(⟨n + 1, h⟩ : Fin cfg1.N).val % 500 = 0 := by dsimp only; omega
    exact (congrFun ((outsAt1_B (V3 m ρ) c ⟨n + 1, h⟩ later).trans (later_point ..)) _).trans (step m ρ c ⟨n + 1, h⟩ _ g d)

/-! ## The result array -/

/-- The last point, after which the block is written back. -/
abbrev last : Fin cfg1.N := ⟨499, by rw [show cfg1.N = 500 from N_1]; decide⟩

/-- The array ends with what the block holds after the last point. -/
theorem result_eq : (dat1 (V3 m ρ) c).arrAt 2 cfg1.N = outsAt1 (V3 m ρ) c last.val last.isLt := by
  refine (dat1 (V3 m ρ) c).arrAt_eq_of_cover 2 _ (fun t hf => ?_) fun i => ⟨last, (flush1_2 last).mpr rfl, ?_⟩
  · have ht : t.val < 500 := lt_of_lt_of_eq t.isLt N_1
    obtain rfl : t = last := Fin.ext (by have := (flush1_2 t).mp hf; show t.val = 499; omega)
    show (cfg1.win 2).cut (grid1.coords last) ((dat1 (V3 m ρ) c).after 2 last) = _
    rw [after1_2]
    have hz : (fun a => win1_2.index last a * main_v5.ty.shape.size a) = fun _ => 0 := funext fun a => by fin_cases a <;> rfl
    exact (Memref.read_access_unit_zero (Elt Ideal) main_v5 hz (fun a => by rw [congrFun hz a]; simp) _).symm
  · show i ∈ ((View.whole main_v5).slice (win1_2.rect last)).set
    rw [View.set_slice_whole, Rect.mem_set_unit]
    intro a
    have := (i a).isLt
    match a with
    | ⟨0, h⟩ => exact ⟨Nat.zero_le _, by show (i ⟨0, h⟩).val < 0 * 512 + 512; exact lt_of_lt_of_eq this rfl⟩
    | ⟨1, h⟩ => exact ⟨Nat.zero_le _, by show (i ⟨1, h⟩).val < 0 * 128 + 128; exact lt_of_lt_of_eq this rfl⟩

/-- The array ends with the segment sums of the bond rows. -/
theorem result_apply (g : Fin 512) (d : Fin 128) :
    ((dat1 (V3 m ρ) c).arrAt 2 cfg1.N : Vec Ideal S512x128 .f32) (ix2 g d) = partialSum (ids m c) (column m c d) g.val 160000 := by
  rw [result_eq]
  exact sums m ρ c g d 499 _

end Cert.BondRegion

end
-- ==== Proof.Equation.lean ====
/-
  The kernel's result is the reference's: both put the atom rows' segment sums, the bond rows' segment sums and the global
  features side by side.
-/
module

public import proofs.«01_k».proof.Proof.BondRegion
public import proofs.«01_k».proof.Proof.Gen.ReferenceIdeal.Run

@[expose] public section

noncomputable section

namespace Cert.Equation

open Idealize.ShloMosaic Idealize.ShloMosaic.TcCoe Idealize.SL.Sem
open Cert.KernelIdeal Cert.KernelIdeal.Gen Cert.SegmentSum

/-- Two 512 × 128 arrays are equal when they agree at every row and column. -/
theorem ext2 {x y : Vec Ideal S512x128 .f32} (h : ∀ (g : Fin 512) (d : Fin 128), x (ix2 g d) = y (ix2 g d)) : x = y :=
  funext fun i => by
    rw [show i = ix2 (i 0) (i 1) from funext fun a => by match a with | ⟨0, _⟩ => rfl | ⟨1, _⟩ => rfl]
    exact h _ _

/-- The zeros that the reference's sums start at. -/
abbrev zeros : FVec Ideal S512x128 .f32 :=
  broadcastInDim S512x128 ![] Cert.ReferenceIdeal.Gen.bcast_S_S512x128 (constant (F := Ideal) Cert.ReferenceIdeal.S_ .f32 0x00000000#32)

/-- Each of them is the real number 0. -/
theorem zeros_apply (i : S512x128.Idx) : zeros i = 0 := Ideal.ofBits_zero_f32

/-- The reference's segment sums of the atom rows. -/
abbrev atomSums (x : Vec Ideal S10000x128 .f32) (ids : Vec Ideal S10000 .i32) : Vec Ideal S512x128 .f32 :=
  Host.scatterAdd (F := Ideal) Cert.ReferenceIdeal.scatter_S512x128_S10000x1_S10000x128_1_0_0_1
    zeros (broadcastInDim Cert.ReferenceIdeal.S10000x1 ![0] Cert.ReferenceIdeal.Gen.bcast_S10000_S10000x1_0 ids) x

/-- The reference's segment sums of the even bond rows. -/
abbrev bondSums (x : Vec Ideal S320000x128 .f32) (ids : Vec Ideal S160000 .i32) : Vec Ideal S512x128 .f32 :=
  Host.scatterAdd (F := Ideal) Cert.ReferenceIdeal.scatter_S512x128_S160000x1_S160000x128_1_0_0_1
    zeros (broadcastInDim Cert.ReferenceIdeal.S160000x1 ![0] Cert.ReferenceIdeal.Gen.bcast_S160000_S160000x1_0 ids)
    (Host.slice Cert.ReferenceIdeal.S160000x128 ![0, 0] ![2, 1] x Cert.ReferenceIdeal.Gen.slicesBy_S320000x128_S160000x128_0s2_0s1)

variable (m : (ℓ : Loc nD τ sig) → Buf (Elt Ideal) ℓ) (ρ : Dev nD → PrngReg) (c : Dev nD)

/-- The first kernel's array holds the reference's atom sums. -/
theorem atoms : (W4 m ρ c (Proc.devRef .tc main_v3) : Vec Ideal S512x128 .f32)
    = atomSums (m ((c : Thread nD τ).loc main_arg0)) (m ((c : Thread nD τ).loc main_arg3)) := by
  refine ((W4_of_ne m ρ c main_v3 (by decide)).trans ((W3_of m ρ c main_v3 (by decide)).trans (W2_arr m ρ c 2))).trans ?_
  refine ext2 fun g d => (Cert.AtomRegion.result_apply m ρ c g d).trans ?_
  refine Eq.trans ?_ (scatterAdd_apply _ rfl rfl rfl rfl _ _ _ g d (zeros_apply _)).symm
  refine congrArg (fun ids => partialSum ids (Cert.AtomRegion.column m c d) g.val 10000) (funext fun n => ?_)
  exact (broadcastInDim_apply _ _ _ _ _ (fun a => by match a with | ⟨0, _⟩ => rfl)).symm

/-- The second kernel's array holds the reference's bond sums. -/
theorem bonds : (W4 m ρ c (Proc.devRef .tc main_v5) : Vec Ideal S512x128 .f32)
    = bondSums (m ((c : Thread nD τ).loc main_arg1)) (m ((c : Thread nD τ).loc main_arg4)) := by
  refine (W4_arr m ρ c 2).trans ?_
  refine ext2 fun g d => (Cert.BondRegion.result_apply m ρ c g d).trans ?_
  refine Eq.trans ?_ (scatterAdd_apply _ rfl rfl rfl rfl _ _ _ g d (zeros_apply _)).symm
  refine congrArg₂ (fun ids x => partialSum ids x g.val 160000) (funext fun n => ?_) (funext fun n => ?_)
  · exact (broadcastInDim_apply _ _ _ _ _ (fun a => by match a with | ⟨0, _⟩ => rfl)).symm
  · show (m ((c : Thread nD τ).loc main_arg1) : Vec Ideal S320000x128 .f32) _ = (m ((c : Thread nD τ).loc main_arg1) : Vec Ideal S320000x128 .f32) _
    congr 1
    funext a
    apply Fin.ext
    match a with
    | ⟨0, _⟩ => show 2 * n.val = 0 + 2 * n.val; omega
    | ⟨1, _⟩ => show d.val = 0 + 1 * d.val; omega

/-- The kernel's result array holds the reference's result. -/
theorem result : (W5 m ρ c (Proc.devRef .tc main_v6) : Vec Ideal S512x384 .f32)
    = concatenate Cert.ReferenceIdeal.S512x384 1
        [⟨S512x128, atomSums (m ((c : Thread nD τ).loc main_arg0)) (m ((c : Thread nD τ).loc main_arg3))⟩,
         ⟨S512x128, bondSums (m ((c : Thread nD τ).loc main_arg1)) (m ((c : Thread nD τ).loc main_arg4))⟩,
         ⟨S512x128, (m ((c : Thread nD τ).loc main_arg2) : Vec Ideal S512x128 .f32)⟩]
        Cert.ReferenceIdeal.Gen.concatenates_S512x128_S512x128_S512x128_S512x384_d1 := by
  rw [← atoms m ρ c, ← bonds m ρ c, ← W4_args m ρ c main_arg2 (by decide)]
  show StableHlo.after hostOps2 (W4 m ρ c) (Proc.devRef .tc main_v6) = _
  after_results
  rfl

end Cert.Equation

end
-- ==== Proof.lean ====
/-
  The certificate's claim, in its five parts.

  The kernel is two pallas_calls and a concatenation. Each pallas_call sums, for every one of 512 segments, the rows whose
  segment number is that segment's, by multiplying blocks of rows with a matrix of zeros and ones. The reference adds each row
  to its segment's sum directly. On the extended reals both are the same sum over the rows (`Cert.SegmentSum`), because a row
  with bit 0 contributes 0 to the product whatever it holds.

  * The kernel, its ideal form and the reference each run to an end and leave the arguments as launched and every
    semaphore counter at zero.
  * No operation is rewritten between the kernel and its ideal form.
  * The kernel's result is the reference's (`Cert.Equation.result`), for every argument: segment numbers outside 0 … 511
    contribute nothing on either side.
-/
module

public import proofs.«01_k».proof.Defs
public import proofs.«01_k».proof.Proof.Gen.Kernel.Frame
public import proofs.«01_k».proof.Proof.KernelRun
public import proofs.«01_k».proof.Proof.Equation

@[expose] public section

noncomputable section

namespace Cert.Proof

open Idealize.ShloMosaic Idealize.SL.Sem

/-- The reference is host operations alone: it has no semaphore, so every counter ends at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with one result, the kernel's. -/
theorem algebraic : Cert.algebraic_KernelIdeal_ReferenceIdeal := by
  intro m ρ m' ρ' _ agree
  refine ⟨_, Cert.KernelRun.run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4⟩ := agree c
  rw [h0, h1, h2, h3, h4]
  exact (Cert.Equation.result m ρ c).symm

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
